-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v0_0)) (v3 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8192x1 : Shape := ⟨2, ![8192, 1]⟩
abbrev S2048x2048 : Shape := ⟨2, ![2048, 2048]⟩
abbrev S2048 : Shape := ⟨1, ![2048]⟩
abbrev S2049x2048 : Shape := ⟨2, ![2049, 2048]⟩
abbrev S512x2048 : Shape := ⟨2, ![512, 2048]⟩
abbrev S1x2048 : Shape := ⟨2, ![1, 2048]⟩
abbrev S512x1 : Shape := ⟨2, ![512, 1]⟩

abbrev nBuf : Space → Nat
  | .hbm => 21
  | .vmem => 33
  | .smem => 0
  | _ => 0

abbrev bufTy : (tb : Table) → Fin (tcTables nBuf tb) → BufTy
  | .hbm, ⟨0, _⟩ => ⟨S8192x2048, .f32⟩
  | .hbm, ⟨1, _⟩ => ⟨S8192x1, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2049x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S8192x2048, .f32⟩
  | .hbm, ⟨15, _⟩ => ⟨S8192x2048, .bf16⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S1x2048, .f32⟩
  | .hbm, ⟨20, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S2048, .f32⟩
  | .local _ .vmem, ⟨4, _⟩ => ⟨S2048x2048, .f32⟩
  | .local _ .vmem, ⟨5, _⟩ => ⟨S2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x2048, .f32⟩
  | .local _ .vmem, ⟨13, _⟩ => ⟨S2048, .f32⟩
  | .local _ .vmem, ⟨14, _⟩ => ⟨S2048x2048, .f32⟩
  | .local _ .vmem, ⟨15, _⟩ => ⟨S2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x1, .f32⟩
  | .local _ .vmem, ⟨25, _⟩ => ⟨S512x1, .f32⟩
  | .local _ .vmem, ⟨26, _⟩ => ⟨S2048x2048, .f32⟩
  | .local _ .vmem, ⟨27, _⟩ => ⟨S1x2048, .f32⟩
  | .local _ .vmem, ⟨28, _⟩ => ⟨S2048, .f32⟩
  | .local _ .vmem, ⟨29, _⟩ => ⟨S2048x2048, .f32⟩
  | .local _ .vmem, ⟨30, _⟩ => ⟨S2048, .f32⟩
  | .local _ .vmem, ⟨31, _⟩ => ⟨S512x2048, .f32⟩
  | .local _ .vmem, ⟨32, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v2 : Ref sig .tc := ⟨.hbm, 19, rfl⟩
abbrev main_v3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S8192x2048 : Shape := ⟨2, ![8192, 2048]⟩
abbrev S8192x1 : Shape := ⟨2, ![8192, 1]⟩
abbrev S2048x2048 : Shape := ⟨2, ![2048, 2048]⟩
abbrev S2048 : Shape := ⟨1, ![2048]⟩
abbrev S2049x2048 : Shape := ⟨2, ![2049, 2048]⟩
abbrev S1x2048 : Shape := ⟨2, ![1, 2048]⟩
abbrev S_ : Shape := ⟨0, ![]⟩
abbrev S8192x2049 : Shape := ⟨2, ![8192, 2049]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2049x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S_, .f32⟩
  | .hbm, ⟨20, _⟩ => ⟨S8192x2048, .f32⟩
  | .hbm, ⟨21, _⟩ => ⟨S8192x2048, .i1⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S_, .f32⟩
  | .hbm, ⟨36, _⟩ => ⟨S8192x2048, .f32⟩
  | .hbm, ⟨37, _⟩ => ⟨S8192x2048, .i1⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2049, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S_, .f32⟩
  | .hbm, ⟨53, _⟩ => ⟨S8192x2048, .f32⟩
  | .hbm, ⟨54, _⟩ => ⟨S8192x2048, .i1⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_1 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩

abbrev nD : Nat := 1
abbrev τ : Topo := Topo.v7x

variable {F : FTy → Type} [FloatOps F]
-- ==== Proof.Common.lean ====
/- What the three pipelined calls share: the names the modules below open, and two lemmas used once per window —
   what an input window's staging buffer holds when the body runs, and what a whole-buffer store leaves to be read. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic

@[expose] public section

noncomputable section

namespace Cert.Vae

open Idealize.ShloMosaic Idealize.ShloMosaic.TcCoe
open Idealize.SL Idealize.SL.RA
open Idealize.ShloMosaic.Rounds
open Idealize.ShloMosaic.Pipeline (Dat Cfg Window)
open Cert.KernelIdeal Cert.KernelIdeal.Gen

variable {F : FTy → Type} [FloatOps F]

/-- An input window's staging buffer, at every point: if the body leaves contents `X t` in it at `t`, and a fetch at
    `t` makes it `X t` whatever it held before, then the body finds `X t` there, whether or not the pipeline fetched at
    `t`. -/
theorem before_of {cfg : Cfg sig Λ₀} {c : Dev nD} (dat : Dat τ (Elt F) Unit ℕ (UR sig nD τ) ℕ cfg c) (w : Fin cfg.W)
    (hin : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (X : Fin cfg.N → (cfg.win w).block.Idx → Elt F (cfg.win w).elt) (hafter : ∀ t, dat.after w t = X t)
    (hX : ∀ t d, (cfg.win w).fill (cfg.grid.coords t) d (dat.blockOf w t) = X t) (t : Fin cfg.N) (d) :
    dat.before w t d = X t :=
  (dat.before_in_eq_fetched w hin hlive hclip
    (fun t => by rw [hafter, ← hX t (X t), Pipeline.Window.cut_fill]) t d).trans (hX t d)

/-- A buffer stored whole, once, reads back as what was stored. -/
theorem read_whole_store {κ : Kind} {sp : Space} {s : Shape} {e : EltTy} (v : View sig κ sp s e) (f : v.ty.Contents (Elt F))
    {off : Fin s.rank → Nat} (inb : ∀ a, off a + s.size a ≤ s.size a) (h : ∀ a, off a = 0) (p : s.Idx → Elt F e) :
    v.read (Elt F) (v.writes (Elt F) f [⟨Rect.unit off s.size inb, p⟩]) = p :=
  (View.read_writes_eq_canon v f _ fun y => ⟨_, List.mem_singleton_self _, View.mem_set_unit_zero (funext h) inb y⟩).trans
    (View.canon_unit_zero (funext h) inb p)

end Cert.Vae

end
-- ==== Proof.Segment.lean ====
/- A pipelined call as a segment of @main, stated once for the three calls: entered with every buffer that lives across
   calls at known contents, left with the call's arrays at what its pipeline leaves and every other buffer as it was. -/
module

public import proofs.«01_k».proof.Proof.Common
public import proofs.«01_k».proof.Proof.Gen.KernelIdeal.Regions

@[expose] public section

set_option maxRecDepth 16384

noncomputable section

namespace Cert.Vae

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The kernel bodies call nothing that is indexed by a variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and that it owes
    nothing. -/
abbrev R (c : Dev nD) : sProp 𝕄 := iprop((∃ r, prngReg c r) ∗ ∃ W, owes (c : Thread nD τ) (0 : CellTallies nD τ sig Unit) W)
/-- The thread state between segments: every buffer that lives across calls at the contents `W`, and `R`. -/
abbrev atState (W : Dev nD → Valuation τ sig (Elt F)) (c : Dev nD) : sProp 𝕄 :=
  iprop(StableHlo.held (c : Thread nD τ) (Pipeline.ucRefs τ sig) (W c) ∗ R c)

-- the library's lemmas are stated over the pinned configuration, which is the printed one by unfolding definitions in
-- the type of a metavariable
set_option backward.isDefEq.respectTransparency.types false in
/-- Call `p` as a segment from the contents `W` to the contents `W'`, given its body obligation (`hbody`) for proof data
    that read their arrays off `W` (`hA`), hold them whole, owe nothing and keep only the other scoped buffers and the
    generator register beside them (`hΦ`, `howed`, `hrec`, `hq`), where `W'` has the call's arrays at what the pipeline
    leaves (`hF`) and agrees with `W` elsewhere (`hrest`). -/
def callSeg (p : Fin 3) (hl : Pipeline.LaunchFacts (nD := nD) (τ := τ) cfgs p)
    (pdats : (p : Fin 3) → (c : Dev nD) → Dat τ (Elt F) Unit ℕ (UR sig nD τ) ℕ (Pipeline.pin (pcfgs (F := F)) adm p) c)
    (W W' : Dev nD → Valuation τ sig (Elt F))
    (hbody : ∀ c, BodyObligation (pdats p c) defs₀ 𝒱₀ () Set.univ)
    (hA : ∀ c w, (pdats p c).A w = W c (Proc.devRef .tc (Pipeline.arrRef (cfgs p).spec w)))
    (hΦ : ∀ c t, (pdats p c).Φ t = Pipeline.ΦA (cfgs p).spec c) (howed : ∀ c t, (pdats p c).owed t = 0)
    (hrec : ∀ c t, (pdats p c).recorded t = Set.univ) (hq : ∀ c w, (pdats p c).q w = fullShare)
    (hF : ∀ c w, (pdats p c).arrAt w (cfgs p).N = W' c (Proc.devRef .tc (Pipeline.arrRef (cfgs p).spec w)))
    (hrest : ∀ c (b : Ref sig .tc), b ∉ Finset.univ.image (Pipeline.arrRef (cfgs p).spec) →
      W' c (Proc.devRef .tc b) = W c (Proc.devRef .tc b)) :
    Pipeline.RegionSeg (pcfgs (F := F)) adm pdats () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p fun c t => howed c t
  pre := atState W
  post := atState W'
  X c := iprop(∃ r, prngReg c r)
  Y c := iprop(∃ r, prngReg c r)
  Z c := Pipeline.unscopedRest (Ix := Unit) (Name := ℕ) (U := UR sig nD τ) (Lvl := ℕ) (cfgs p).spec c (fun b => W c (Proc.devRef .tc b))
  hentry c := by
    rw [Pipeline.ownSems0_none]
    have hsplit := Pipeline.arrays_of_unscopedBufs (p := p) (pcfgs (F := F)) adm pdats hl.win hl.arr_whole c
      ((pdats p c).share_full (hq c)) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pdats ((pdats p c).share_full (hq c))
      (fun b => W c (Proc.devRef .tc b)) (fun b => W' c (Proc.devRef .tc b)) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

end Cert.Vae

end
-- ==== Proof.Region0.lean ====
/- The first call (`log-variance` head): what its body does to the staging buffers, and the proof data and body
   obligation of its pipeline, at any contents `V` of the buffers when the call is entered. -/
module

public import proofs.«01_k».proof.Proof.Common

@[expose] public section

set_option maxRecDepth 16384

noncomputable section

namespace Cert.Vae

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body, on whole staging buffers whose inputs read `x0 … x4`: it leaves the inputs as they were, `k0_pay2` of them in
    the sixth buffer and the narrowed first input in the seventh. -/
theorem sound_kernel0 (c : Dev nD) (E : Set ℕ) (i : grid0.Coords) (arg1 : Memref sig .tc .vmem S512x2048 .f32) (harg1 : arg1.IsWhole) (arg2 : Memref sig .tc .vmem S2048x2048 .f32) (harg2 : arg2.IsWhole) (arg3 : Memref sig .tc .vmem S2048 .f32) (harg3 : arg3.IsWhole) (arg4 : Memref sig .tc .vmem S2048x2048 .f32) (harg4 : arg4.IsWhole) (arg5 : Memref sig .tc .vmem S2048 .f32) (harg5 : arg5.IsWhole) (arg6 : Memref sig .tc .vmem S512x2048 .f32) (harg6 : arg6.IsWhole) (arg7 : Memref sig .tc .vmem S512x2048 .bf16) (harg7 : arg7.IsWhole)
    (x0 : Vec F S512x2048 .f32) (x1 : Vec F S2048x2048 .f32) (x2 : Vec F S2048 .f32) (x3 : Vec F S2048x2048 .f32) (x4 : Vec F S2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x0 x1 x2 x3 x4) ∗ owns (c : Thread nD τ) arg7 fullShare (k0_pay1 x0)) -∗ K ⟨⟩))
      ⊢ wp frame (wpE (defs₀ (F := F)) Variants.none c none) E (cc0__lv_body i arg1 harg1 arg2 harg2 arg3 harg3 arg4 harg4 arg5 harg5 arg6 harg6 arg7 harg7) K := by
  simp only [cc0__lv_body_eq_skeleton]; unfold cc0__lv_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_whole_store _ _ _ (by decide) _).trans ?_
    exact congr (congr (congr (congr (congrArg k0_pay2 (View.ld_unit_lit _ _ (by decide))) (View.ld_unit_lit _ _ (by decide)))
      (View.ld_unit_lit _ _ (by decide))) (View.ld_unit_lit _ _ (by decide))) (View.ld_unit_lit _ _ (by decide))
  iexists _; isplitr
  swap; · iexact H6
  ipureintro
  exact (read_whole_store _ _ _ (by decide) _).trans (congrArg k0_pay1 (View.ld_unit_lit _ _ (by decide)))

section AtEntry
-- the contents of the core's buffers when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the call finds them; after the body at point `t` the inputs' buffers at their blocks
    and the outputs' at the body's results of those blocks; beside them only the other scoped buffers and the generator
    register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (iblk0 V c 1 t) (iblk0 V c 2 t) (iblk0 V c 3 t) (iblk0 V c 4 t)
    | ⟨6, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = k0_pay2 (iblk0 V c 0 t) (iblk0 V c 1 t) (iblk0 V c 2 t) (iblk0 V c 3 t) (iblk0 V c 4 t) := by dsimp only [dat0]
theorem after0_6 (c : Dev nD) (t : Fin cfg0.N) : (dat0 V c).after 6 t = k0_pay1 (iblk0 V c 0 t) := by dsimp only [dat0]

/-- The pipeline's fetch for window `w` at `t` reads that block. -/
theorem blockOf0 (c : Dev nD) (w : Fin cfg0.W) (t : Fin cfg0.N) : (dat0 V c).blockOf w t = iblk0 V c w t := by
  unfold Dat.blockOf iblk0; rw [A_eq0]

/-- Each input's staging buffer holds its block at every point. -/
theorem before0_0 (c : Dev nD) (t : Fin cfg0.N) (d) : (dat0 V c).before 0 t d = iblk0 V c 0 t :=
  before_of (dat0 V c) 0 rfl (fun _ => rfl) (fun _ _ _ => rfl) (iblk0 V c 0) (after0_0 V c) (fun t d => by rw [blockOf0]; rfl) t d
theorem before0_1 (c : Dev nD) (t : Fin cfg0.N) (d) : (dat0 V c).before 1 t d = iblk0 V c 1 t :=
  before_of (dat0 V c) 1 rfl (fun _ => rfl) (fun _ _ _ => rfl) (iblk0 V c 1) (after0_1 V c) (fun t d => by rw [blockOf0]; rfl) t d
theorem before0_2 (c : Dev nD) (t : Fin cfg0.N) (d) : (dat0 V c).before 2 t d = iblk0 V c 2 t :=
  before_of (dat0 V c) 2 rfl (fun _ => rfl) (fun _ _ _ => rfl) (iblk0 V c 2) (after0_2 V c) (fun t d => by rw [blockOf0]; rfl) t d
theorem before0_3 (c : Dev nD) (t : Fin cfg0.N) (d) : (dat0 V c).before 3 t d = iblk0 V c 3 t :=
  before_of (dat0 V c) 3 rfl (fun _ => rfl) (fun _ _ _ => rfl) (iblk0 V c 3) (after0_3 V c) (fun t d => by rw [blockOf0]; rfl) t d
theorem before0_4 (c : Dev nD) (t : Fin cfg0.N) (d) : (dat0 V c).before 4 t d = iblk0 V c 4 t :=
  before_of (dat0 V c) 4 rfl (fun _ => rfl) (fun _ _ _ => rfl) (iblk0 V c 4) (after0_4 V c) (fun t d => by rw [blockOf0]; rfl) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point runs from the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s buffers is the body there. -/
theorem defs₀_row0 (t : Fin cfg0.N) :
    defs₀ (F := F) .tc cfg0.body (cfg0.bodyArgs t (cfg0.slots t)) = bodyAt0 t := by
  unfold defs₀; rw [Defs.onTc_tc]

/-- The pipeline's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end AtEntry

end Cert.Vae

end
-- ==== Proof.Region1.lean ====
/- The second call (mean head): what its body does to the staging buffers, and the proof data and body obligation of
   its pipeline, at any contents `V` of the buffers when the call is entered. -/
module

public import proofs.«01_k».proof.Proof.Common

@[expose] public section

set_option maxRecDepth 16384

noncomputable section

namespace Cert.Vae

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body, on whole staging buffers whose inputs read `x0 … x4`: it leaves the inputs as they were, `k1_pay1` of them in
    the sixth and the seventh buffer and `k1_pay2` of them in the eighth. -/
theorem sound_kernel1 (c : Dev nD) (E : Set ℕ) (i : grid1.Coords) (arg1 : Memref sig .tc .vmem S512x2048 .bf16) (harg1 : arg1.IsWhole) (arg2 : Memref sig .tc .vmem S2048x2048 .f32) (harg2 : arg2.IsWhole) (arg3 : Memref sig .tc .vmem S2048 .f32) (harg3 : arg3.IsWhole) (arg4 : Memref sig .tc .vmem S2048x2048 .f32) (harg4 : arg4.IsWhole) (arg5 : Memref sig .tc .vmem S2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole)
    (x0 : Vec F S512x2048 .bf16) (x1 : Vec F S2048x2048 .f32) (x2 : Vec F S2048 .f32) (x3 : Vec F S2048x2048 .f32) (x4 : Vec F S2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x1 x2 x3 x4) ∗ owns (c : Thread nD τ) arg7 fullShare (k1_pay1 x0 x1 x2 x3 x4) ∗ owns (c : Thread nD τ) arg8 fullShare (k1_pay2 x0 x1 x2 x3 x4)) -∗ K ⟨⟩))
      ⊢ wp frame (wpE (defs₀ (F := F)) Variants.none c none) E (cc1__mu_body i arg1 harg1 arg2 harg2 arg3 harg3 arg4 harg4 arg5 harg5 arg6 harg6 arg7 harg7 arg8 harg8) K := by
  simp only [cc1__mu_body_eq_skeleton]; unfold cc1__mu_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_whole_store _ _ _ (by decide) _).trans ?_
    exact congr (congr (congr (congr (congrArg k1_pay1 (View.ld_unit_lit _ _ (by decide))) (View.ld_unit_lit _ _ (by decide))) (View.ld_unit_lit _ _ (by decide))) (View.ld_unit_lit _ _ (by decide))) (View.ld_unit_lit _ _ (by decide))
  isplitl [H6]
  · iexists _; isplitr
    swap; · iexact H6
    ipureintro
    refine (read_whole_store _ _ _ (by decide) _).trans ?_
    exact congr (congr (congr (congr (congrArg k1_pay1 (View.ld_unit_lit _ _ (by decide))) (View.ld_unit_lit _ _ (by decide))) (View.ld_unit_lit _ _ (by decide))) (View.ld_unit_lit _ _ (by decide))) (View.ld_unit_lit _ _ (by decide))
  iexists _; isplitr
  swap; · iexact H7
  ipureintro
  refine (read_whole_store _ _ _ (by decide) _).trans ?_
  exact congr (congr (congr (congr (congrArg k1_pay2 (View.ld_unit_lit _ _ (by decide))) (View.ld_unit_lit _ _ (by decide))) (View.ld_unit_lit _ _ (by decide))) (View.ld_unit_lit _ _ (by decide))) (View.ld_unit_lit _ _ (by decide))

section AtEntry
-- the contents of the core's buffers when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as the call finds them; after the body at point `t` the inputs' buffers at their blocks
    and the outputs' at the body's results of those blocks; beside them only the other scoped buffers and the generator
    register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
    | ⟨6, _⟩ => k1_pay1 (iblk1 V c 0 t) (iblk1 V c 1 t) (iblk1 V c 2 t) (iblk1 V c 3 t) (iblk1 V c 4 t)
    | ⟨7, _⟩ => k1_pay2 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay1 (iblk1 V c 0 t) (iblk1 V c 1 t) (iblk1 V c 2 t) (iblk1 V c 3 t) (iblk1 V c 4 t) := by dsimp only [dat1]
theorem after1_6 (c : Dev nD) (t : Fin cfg1.N) : (dat1 V c).after 6 t = k1_pay1 (iblk1 V c 0 t) (iblk1 V c 1 t) (iblk1 V c 2 t) (iblk1 V c 3 t) (iblk1 V c 4 t) := by dsimp only [dat1]
theorem after1_7 (c : Dev nD) (t : Fin cfg1.N) : (dat1 V c).after 7 t = k1_pay2 (iblk1 V c 0 t) (iblk1 V c 1 t) (iblk1 V c 2 t) (iblk1 V c 3 t) (iblk1 V c 4 t) := by dsimp only [dat1]

/-- The pipeline's fetch for window `w` at `t` reads that block. -/
theorem blockOf1 (c : Dev nD) (w : Fin cfg1.W) (t : Fin cfg1.N) : (dat1 V c).blockOf w t = iblk1 V c w t := by
  unfold Dat.blockOf iblk1; rw [A_eq1]

/-- Each input's staging buffer holds its block at every point. -/
theorem before1_0 (c : Dev nD) (t : Fin cfg1.N) (d) : (dat1 V c).before 0 t d = iblk1 V c 0 t :=
  before_of (dat1 V c) 0 rfl (fun _ => rfl) (fun _ _ _ => rfl) (iblk1 V c 0) (after1_0 V c) (fun t d => by rw [blockOf1]; rfl) t d
theorem before1_1 (c : Dev nD) (t : Fin cfg1.N) (d) : (dat1 V c).before 1 t d = iblk1 V c 1 t :=
  before_of (dat1 V c) 1 rfl (fun _ => rfl) (fun _ _ _ => rfl) (iblk1 V c 1) (after1_1 V c) (fun t d => by rw [blockOf1]; rfl) t d
theorem before1_2 (c : Dev nD) (t : Fin cfg1.N) (d) : (dat1 V c).before 2 t d = iblk1 V c 2 t :=
  before_of (dat1 V c) 2 rfl (fun _ => rfl) (fun _ _ _ => rfl) (iblk1 V c 2) (after1_2 V c) (fun t d => by rw [blockOf1]; rfl) t d
theorem before1_3 (c : Dev nD) (t : Fin cfg1.N) (d) : (dat1 V c).before 3 t d = iblk1 V c 3 t :=
  before_of (dat1 V c) 3 rfl (fun _ => rfl) (fun _ _ _ => rfl) (iblk1 V c 3) (after1_3 V c) (fun t d => by rw [blockOf1]; rfl) t d
theorem before1_4 (c : Dev nD) (t : Fin cfg1.N) (d) : (dat1 V c).before 4 t d = iblk1 V c 4 t :=
  before_of (dat1 V c) 4 rfl (fun _ => rfl) (fun _ _ _ => rfl) (iblk1 V c 4) (after1_4 V c) (fun t d => by rw [blockOf1]; rfl) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point runs from the one to the other. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s buffers is the body there. -/
theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end AtEntry

end Cert.Vae

end
-- ==== Proof.Region2.lean ====
/- The third call (decoder): what its body does to the staging buffers, and the proof data and body obligation of its
   pipeline, at any contents `V` of the buffers when the call is entered. -/
module

public import proofs.«01_k».proof.Proof.Common

@[expose] public section

set_option maxRecDepth 16384

noncomputable section

namespace Cert.Vae

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body, on whole staging buffers whose inputs read `x0 … x6`: it leaves the inputs as they were and `k2_pay1` of them
    (the weight matrix before the column of offsets, in the order the body reads them) in the eighth buffer. -/
theorem sound_kernel2 (c : Dev nD) (E : Set ℕ) (i : grid2.Coords) (arg1 : Memref sig .tc .vmem S512x2048 .bf16) (harg1 : arg1.IsWhole) (arg2 : Memref sig .tc .vmem S512x1 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S2048 .f32) (harg5 : arg5.IsWhole) (arg6 : Memref sig .tc .vmem S2048x2048 .f32) (harg6 : arg6.IsWhole) (arg7 : Memref sig .tc .vmem S2048 .f32) (harg7 : arg7.IsWhole) (arg8 : Memref sig .tc .vmem S512x2048 .f32) (harg8 : arg8.IsWhole)
    (x0 : Vec F S512x2048 .bf16) (x1 : Vec F S512x1 .f32) (x2 : Vec F S2048x2048 .f32) (x3 : Vec F S1x2048 .f32) (x4 : Vec F S2048 .f32) (x5 : Vec F S2048x2048 .f32) (x6 : Vec F S2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k2_pay1 x0 x2 x1 x3 x4 x5 x6)) -∗ K ⟨⟩))
      ⊢ wp frame (wpE (defs₀ (F := F)) Variants.none c none) E (cc2__dec_body i arg1 harg1 arg2 harg2 arg3 harg3 arg4 harg4 arg5 harg5 arg6 harg6 arg7 harg7 arg8 harg8) K := by
  simp only [cc2__dec_body_eq_skeleton]; unfold cc2__dec_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_whole_store _ _ _ (by decide) _).trans ?_
  exact congr (congr (congr (congr (congr (congr (congrArg k2_pay1 (View.ld_unit_lit _ _ (by decide))) (View.ld_unit_lit _ _ (by decide))) (View.ld_unit_lit _ _ (by decide))) (View.ld_unit_lit _ _ (by decide))) (View.ld_unit_lit _ _ (by decide))) (View.ld_unit_lit _ _ (by decide))) (View.ld_unit_lit _ _ (by decide))

section AtEntry
-- the contents of the core's buffers when the call is entered
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The third window is the decoder's first weight matrix without its last row: a block of 2048 rows of an array of 2049.
    The block lies wholly inside the array, so a fetch fills the whole staging buffer; this is what it leaves there (the
    filler, which nothing reads, is arbitrary). -/
def X2_2 (c : Dev nD) (t : Fin cfg2.N) : (cfg2.win 2).block.Idx → Elt F (cfg2.win 2).elt :=
  (cfg2.win 2).fill (cfg2.grid.coords t) (fun _ => Classical.choice inferInstance) (iblk2 V c 2 t)
omit [FloatOps F] in
/-- At every point the part of that window inside the array is the whole block. -/
theorem xsize2_2 : ∀ t : Fin cfg2.N, ∀ a, (cfg2.win 2).xsize (cfg2.grid.coords t) a = (cfg2.win 2).size a := by decide +kernel
/-- So every index of the block is moved. -/
theorem moved2_2 (t : Fin cfg2.N) (j : (cfg2.win 2).block.Idx) : (cfg2.win 2).moved (cfg2.grid.coords t) j = true :=
  ((cfg2.win 2).moved_iff _ j).mpr fun a => by rw [xsize2_2 t a]; exact (j a).isLt
/-- And what a fetch leaves does not depend on what the buffer held. -/
theorem fill2_2 (t : Fin cfg2.N) (d d' : (cfg2.win 2).block.Idx → Elt F (cfg2.win 2).elt) (g) :
    (cfg2.win 2).fill (cfg2.grid.coords t) d g = (cfg2.win 2).fill (cfg2.grid.coords t) d' g := by
  funext j; unfold Pipeline.Window.fill; rw [dif_pos (moved2_2 t j), dif_pos (moved2_2 t j)]

/-- The proof data: the arrays as the call finds them; after the body at point `t` the inputs' buffers at their blocks
    and the outputs' at the body's results of those blocks; beside them only the other scoped buffers and the generator
    register, untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => X2_2 V c t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay1 (iblk2 V c 0 t) (X2_2 V c t) (iblk2 V c 1 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = X2_2 V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = k2_pay1 (iblk2 V c 0 t) (X2_2 V c t) (iblk2 V c 1 t) (iblk2 V c 3 t) (iblk2 V c 4 t) (iblk2 V c 5 t) (iblk2 V c 6 t) := by dsimp only [dat2]

/-- The pipeline's fetch for window `w` at `t` reads that block. -/
theorem blockOf2 (c : Dev nD) (w : Fin cfg2.W) (t : Fin cfg2.N) : (dat2 V c).blockOf w t = iblk2 V c w t := by
  unfold Dat.blockOf iblk2; rw [A_eq2]

/-- Each input's staging buffer holds its block at every point. -/
theorem before2_0 (c : Dev nD) (t : Fin cfg2.N) (d) : (dat2 V c).before 0 t d = iblk2 V c 0 t :=
  before_of (dat2 V c) 0 rfl (fun _ => rfl) (fun _ _ _ => rfl) (iblk2 V c 0) (after2_0 V c) (fun t d => by rw [blockOf2]; rfl) t d
theorem before2_1 (c : Dev nD) (t : Fin cfg2.N) (d) : (dat2 V c).before 1 t d = iblk2 V c 1 t :=
  before_of (dat2 V c) 1 rfl (fun _ => rfl) (fun _ _ _ => rfl) (iblk2 V c 1) (after2_1 V c) (fun t d => by rw [blockOf2]; rfl) t d
theorem before2_2 (c : Dev nD) (t : Fin cfg2.N) (d) : (dat2 V c).before 2 t d = X2_2 V c t :=
  before_of (dat2 V c) 2 rfl (fun _ => rfl)
    (fun t t' h => funext fun a => congrArg (fun n => Pipeline.Clip.of n ((cfg2.win 2).size a) (S2049x2048.size a)) (congrFun h a))
    (X2_2 V c) (after2_2 V c) (fun t d => by rw [blockOf2]; exact fill2_2 t _ _ _) t d
theorem before2_3 (c : Dev nD) (t : Fin cfg2.N) (d) : (dat2 V c).before 3 t d = iblk2 V c 3 t :=
  before_of (dat2 V c) 3 rfl (fun _ => rfl) (fun _ _ _ => rfl) (iblk2 V c 3) (after2_3 V c) (fun t d => by rw [blockOf2]; rfl) t d
theorem before2_4 (c : Dev nD) (t : Fin cfg2.N) (d) : (dat2 V c).before 4 t d = iblk2 V c 4 t :=
  before_of (dat2 V c) 4 rfl (fun _ => rfl) (fun _ _ _ => rfl) (iblk2 V c 4) (after2_4 V c) (fun t d => by rw [blockOf2]; rfl) t d
theorem before2_5 (c : Dev nD) (t : Fin cfg2.N) (d) : (dat2 V c).before 5 t d = iblk2 V c 5 t :=
  before_of (dat2 V c) 5 rfl (fun _ => rfl) (fun _ _ _ => rfl) (iblk2 V c 5) (after2_5 V c) (fun t d => by rw [blockOf2]; rfl) t d
theorem before2_6 (c : Dev nD) (t : Fin cfg2.N) (d) : (dat2 V c).before 6 t d = iblk2 V c 6 t :=
  before_of (dat2 V c) 6 rfl (fun _ => rfl) (fun _ _ _ => rfl) (iblk2 V c 6) (after2_6 V c) (fun t d => by rw [blockOf2]; rfl) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point runs from the one to the other. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (X2_2 V c t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s buffers is the body there. -/
theorem defs₀_row2 (t : Fin cfg2.N) :
    defs₀ (F := F) .tc cfg2.body (cfg2.bodyArgs t (cfg2.slots t)) = bodyAt2 t := by
  unfold defs₀; rw [Defs.onTc_tc]

/-- The pipeline's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end AtEntry

end Cert.Vae

end
-- ==== Proof.Run.lean ====
/- The run of the whole program: what every buffer that lives across the calls holds after each of the four steps of
   @main (three pipelined calls and, before the last, the cut of the decoder's last weight row), and the theorem that every
   run ends with those contents and every counter at zero. -/
module

public import proofs.«01_k».proof.Proof.Segment
public import proofs.«01_k».proof.Proof.Region0
public import proofs.«01_k».proof.Proof.Region1
public import proofs.«01_k».proof.Proof.Region2

@[expose] public section

set_option maxRecDepth 16384

noncomputable section

namespace Cert.Vae

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding V0 V1 V2 V3 V4 segs

variable {F : FTy → Type} [FloatOps F]

local notation "𝕄" => MT nD τ sig Unit (Elt F) ℕ (UR sig nD τ) ℕ

variable (m : (ℓ : Loc nD τ sig) → Buf (Elt F) ℓ)

/-! ## The buffers' contents between the steps -/

/-- Contents named by every buffer, read at the buffers a call's windows name. -/
abbrev atRefs (W : Dev nD → Valuation τ sig (Elt F)) : (c : Dev nD) → (b : Ref sig .tc) → Buf (Elt F) ((c : Thread nD τ).loc b) :=
  fun c b => W c (Proc.devRef .tc b)

/-- At the start. -/
abbrev W0 : Dev nD → Valuation τ sig (Elt F) := fun c b => m (c, b)
/-- After the first call: its arrays at what its pipeline leaves, every other buffer as before. -/
def W1 (c : Dev nD) : Valuation τ sig (Elt F) :=
  Pipeline.withArrays spec0 c (W0 m c) fun w => (dat0 (atRefs (W0 m)) c).arrAt w cfg0.N
/-- After the second call. -/
def W2 (c : Dev nD) : Valuation τ sig (Elt F) :=
  Pipeline.withArrays spec1 c (W1 m c) fun w => (dat1 (atRefs (W1 m)) c).arrAt w cfg1.N
/-- After the cut of the decoder's last weight row. -/
abbrev W3 (c : Dev nD) : Valuation τ sig (Elt F) := StableHlo.after hostOps2 (W2 m c)
/-- After the third call. -/
def W4 (c : Dev nD) : Valuation τ sig (Elt F) :=
  Pipeline.withArrays spec2 c (W3 m c) fun w => (dat2 (atRefs (W3 m)) c).arrAt w cfg2.N

theorem W1_arr (c : Dev nD) (w : Fin cfg0.W) :
    W1 m c (Proc.devRef .tc (Pipeline.arrRef spec0 w)) = (dat0 (atRefs (W0 m)) c).arrAt w cfg0.N := by
  unfold W1; exact Pipeline.withArrays_arr spec0 launch0.win.arr_inj c _ _ w
theorem W2_arr (c : Dev nD) (w : Fin cfg1.W) :
    W2 m c (Proc.devRef .tc (Pipeline.arrRef spec1 w)) = (dat1 (atRefs (W1 m)) c).arrAt w cfg1.N := by
  unfold W2; exact Pipeline.withArrays_arr spec1 launch1.win.arr_inj c _ _ w
theorem W4_arr (c : Dev nD) (w : Fin cfg2.W) :
    W4 m c (Proc.devRef .tc (Pipeline.arrRef spec2 w)) = (dat2 (atRefs (W3 m)) c).arrAt w cfg2.N := by
  unfold W4; exact Pipeline.withArrays_arr spec2 launch2.win.arr_inj c _ _ w

theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

/-- A buffer that is no output array of the first call is as before it: an input array is never written back. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (atRefs (W0 m)) c).arrAt_in w (h w rfl) _).trans (A_eq0 (atRefs (W0 m)) c w))
  · exact W1_of_ne m c r fun w e => hw ⟨w, e⟩
/-- Likewise of the second call, -/
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((dat1 (atRefs (W1 m)) c).arrAt_in w (h w rfl) _).trans (A_eq1 (atRefs (W1 m)) c w))
  · exact W2_of_ne m c r fun w e => hw ⟨w, e⟩
/-- of a buffer the cut does not write, -/
theorem W3_of (c : Dev nD) (r : Ref sig .tc) (h : r ∉ hostOps2_W) : W3 m c (Proc.devRef .tc r) = W2 m c (Proc.devRef .tc r) :=
  StableHlo.after_of_writes_sub hostOps2 _ hostOps2_writes h
/-- and of the third call. -/
theorem W4_of (c : Dev nD) (r : Ref sig .tc) (h : ∀ w : Fin cfg2.W, Pipeline.arrRef spec2 w = r → (cfg2.win w).isOut = false) :
    W4 m c (Proc.devRef .tc r) = W3 m c (Proc.devRef .tc r) := by
  by_cases hw : ∃ w : Fin cfg2.W, Pipeline.arrRef spec2 w = r
  · obtain ⟨w, rfl⟩ := hw
    exact (W4_arr m c w).trans (((dat2 (atRefs (W3 m)) c).arrAt_in w (h w rfl) _).trans (A_eq2 (atRefs (W3 m)) c w))
  · exact W4_of_ne m c r fun w e => hw ⟨w, e⟩

/-! ## The arguments -/

/-- @main's arguments. -/
abbrev argRefs : List (Ref sig .tc) := [main_arg0, main_arg1, main_arg2, main_arg3, main_arg4, main_arg5, main_arg6, main_arg7, main_arg8, main_arg9, main_arg10, main_arg11, main_arg12, main_arg13]

/-- An argument among a call's arrays is one of its inputs, and the cut writes none. -/
theorem args_in0 : ∀ a ∈ argRefs, ∀ w : Fin cfg0.W, Pipeline.arrRef spec0 w = a → (cfg0.win w).isOut = false :=
  ListAll.forall_mem_of_all_decide (by decide +kernel)
theorem args_in1 : ∀ a ∈ argRefs, ∀ w : Fin cfg1.W, Pipeline.arrRef spec1 w = a → (cfg1.win w).isOut = false :=
  ListAll.forall_mem_of_all_decide (by decide +kernel)
theorem args_in2 : ∀ a ∈ argRefs, ∀ w : Fin cfg2.W, Pipeline.arrRef spec2 w = a → (cfg2.win w).isOut = false :=
  ListAll.forall_mem_of_all_decide (by decide +kernel)
theorem args_cut : ∀ a ∈ argRefs, a ∉ hostOps2_W := ListAll.forall_mem_of_all_decide (by decide +kernel)

/-- So every argument keeps its contents through every step. -/
theorem W1_arg (c : Dev nD) (a : Ref sig .tc) (ha : a ∈ argRefs) : W1 m c (Proc.devRef .tc a) = m ((c : Thread nD τ).loc a) :=
  W1_of m c a (args_in0 a ha)
theorem W2_arg (c : Dev nD) (a : Ref sig .tc) (ha : a ∈ argRefs) : W2 m c (Proc.devRef .tc a) = m ((c : Thread nD τ).loc a) :=
  (W2_of m c a (args_in1 a ha)).trans (W1_arg m c a ha)
theorem W3_arg (c : Dev nD) (a : Ref sig .tc) (ha : a ∈ argRefs) : W3 m c (Proc.devRef .tc a) = m ((c : Thread nD τ).loc a) :=
  (W3_of m c a (args_cut a ha)).trans (W2_arg m c a ha)
theorem W4_arg (c : Dev nD) (a : Ref sig .tc) (ha : a ∈ argRefs) : W4 m c (Proc.devRef .tc a) = m ((c : Thread nD τ).loc a) :=
  (W4_of m c a (args_in2 a ha)).trans (W3_arg m c a ha)

/-! ## The segments -/

/-- The three pipelines' proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (atRefs (W0 m)) c
  | ⟨1, _⟩ => fun c => dat1 (atRefs (W1 m)) c
  | ⟨2, _⟩ => fun c => dat2 (atRefs (W3 m)) c

/-- The first call, from `W0` to `W1`. -/
def seg0 : Pipeline.RegionSeg (pcfgs (F := F)) adm (pdats m) () defs₀ 𝒱₀ L lv 0 :=
  callSeg 0 launch0 (pdats m) (W0 m) (W1 m) (fun c => body_obligation0 (atRefs (W0 m)) c) (fun c w => A_eq0 (atRefs (W0 m)) c w)
    (fun _ _ => rfl) (fun _ _ => rfl) (fun _ _ => rfl) (fun _ _ => rfl) (fun c w => (W1_arr m c w).symm)
    (fun c b hb => W1_of_ne m c b fun w e => hb (Finset.mem_image.mpr ⟨w, Finset.mem_univ _, e⟩))
/-- The second call, from `W1` to `W2`. -/
def seg1 : Pipeline.RegionSeg (pcfgs (F := F)) adm (pdats m) () defs₀ 𝒱₀ L lv 1 :=
  callSeg 1 launch1 (pdats m) (W1 m) (W2 m) (fun c => body_obligation1 (atRefs (W1 m)) c) (fun c w => A_eq1 (atRefs (W1 m)) c w)
    (fun _ _ => rfl) (fun _ _ => rfl) (fun _ _ => rfl) (fun _ _ => rfl) (fun c w => (W2_arr m c w).symm)
    (fun c b hb => W2_of_ne m c b fun w e => hb (Finset.mem_image.mpr ⟨w, Finset.mem_univ _, e⟩))
/-- The third call, from `W3` to `W4`. -/
def seg3 : Pipeline.RegionSeg (pcfgs (F := F)) adm (pdats m) () defs₀ 𝒱₀ L lv 2 :=
  callSeg 2 launch2 (pdats m) (W3 m) (W4 m) (fun c => body_obligation2 (atRefs (W3 m)) c) (fun c w => A_eq2 (atRefs (W3 m)) c w)
    (fun _ _ => rfl) (fun _ _ => rfl) (fun _ _ => rfl) (fun _ _ => rfl) (fun c w => (W4_arr m c w).symm)
    (fun c b hb => W4_of_ne m c b fun w e => hb (Finset.mem_image.mpr ⟨w, Finset.mem_univ _, e⟩))
/-- The cut, from `W2` to `W3`. -/
abbrev segCut : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- @main's four steps in order. -/
abbrev steps : List (Pipeline.Seg (pcfgs (F := F)) adm (pdats m) () defs₀ 𝒱₀ L lv) :=
  [ .region (seg0 m), .region (seg1 m), .host (segCut m), .region (seg3 m) ]
/-- @main is the run of those steps. -/
theorem main_run (c : Dev nD) : main (F := F) c = Pipeline.Seg.run (steps m) := (main_chain c).trans (by chain_rfl)

/-- A buffer of @main's lives across the calls. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- From any memory with every counter at zero, every fair execution of @main terminates without a fault, and every
    final state holds in each buffer that lives across the calls what `W4` says and has every counter at zero. -/
theorem run (ρ : Dev nD → PrngReg) : θ_run defs (onTc (τ := τ) (main (F := F))) ⟨m, fun _ => 0, ρ⟩ (fun r =>
      (∀ c : Dev nD, ∀ b ∈ Pipeline.ucRefs τ sig, r.2.mem (((c : Thread nD τ)).1, b) = W4 m c b) ∧ r.2.sem = fun _ => 0) :=
  Pipeline.θ_run_regions_kit_sems (pcfgs (F := F)) adm (pdats m) () cellOf_inj emb₁ defs₀ 𝒱₀ L lv m ρ main (steps m)
    (fun c Q => by rw [main_run m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := atState (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show atState (W4 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (regions_no_unscoped g.2))⟩)

/-- So each buffer of @main's ends at what `W4` says of it. -/
theorem run_reads {mem : (ℓ : Loc nD τ sig) → Buf (Elt F) ℓ} (c : Dev nD) (b : Ref sig .tc) (hb : ¬ (Proc.devRef .tc b : DevRef τ sig).isScoped)
    (h : ∀ c : Dev nD, ∀ b ∈ Pipeline.ucRefs τ sig, mem (((c : Thread nD τ)).1, b) = W4 m c b) :
    mem ((c.tc : Thread nD τ).loc b) = W4 m c (Proc.devRef .tc b) :=
  h c _ (mem_uc b hb)

end Cert.Vae

end
-- ==== Proof.Layers.lean ====
/- One two-layer network applied to one row, on the extended reals, and that this is what each kernel body computes of
   each row of its block. -/
module

public import proofs.«01_k».proof.Proof.Gen.KernelIdeal.Skeleton
public import Idealize.ShloMosaic.Lib.Pointwise

@[expose] public section

noncomputable section

namespace Cert.Vae

open Idealize.ShloMosaic
open Cert.KernelIdeal Cert.KernelIdeal.Gen

/-- The activation: the larger of `x` and `0.01 x` (the constant is the float nearest to 0.01, an exact number here). -/
def leaky (x : EReal) : EReal := max x (Ideal.ofBits .f32 0x3C23D70A#32 * x)

/-- The product of a row with column `c` of a matrix. -/
def rowTimes {K N : ℕ} {φ : FTy} (x : Fin K → EReal) (W : FVec Ideal ⟨2, ![K, N]⟩ φ) (c : Fin N) : EReal := ∑ k, x k * W (ix2 k c)

/-- The second layer's output at column `c`, from the first layer's values before the activation. -/
def secondLayer {H N : ℕ} (h : Fin H → EReal) (W : FVec Ideal ⟨2, ![H, N]⟩ .f32) (b : FVec Ideal ⟨1, ![N]⟩ .f32) (c : Fin N) : EReal :=
  rowTimes (fun k => leaky (h k)) W c + b (ix1 c)

/-- A two-layer network on a row. -/
def mlp {D H N : ℕ} (x : Fin D → EReal) (W₁ : FVec Ideal ⟨2, ![D, H]⟩ .f32) (b₁ : FVec Ideal ⟨1, ![H]⟩ .f32)
    (W₂ : FVec Ideal ⟨2, ![H, N]⟩ .f32) (b₂ : FVec Ideal ⟨1, ![N]⟩ .f32) : Fin N → EReal :=
  secondLayer (fun k => rowTimes x W₁ k + b₁ (ix1 k)) W₂ b₂

/-- The rounding to the narrower format is the identity on exact values. -/
theorem k0_pay1_apply (x : FVec Ideal S512x2048 .f32) (r : Fin 512) (j : Fin 2048) : k0_pay1 (F := Ideal) x (ix2 r j) = x (ix2 r j) := by
  pointwise [k0_pay1]

/-- The first body: row `r` of its block through the network. -/
theorem k0_pay2_apply (x : FVec Ideal S512x2048 .f32) (W₁ : FVec Ideal S2048x2048 .f32) (b₁ : FVec Ideal S2048 .f32) (W₂ : FVec Ideal S2048x2048 .f32)
    (b₂ : FVec Ideal S2048 .f32) (r : Fin 512) (j : Fin 2048) :
    k0_pay2 (F := Ideal) x W₁ b₁ W₂ b₂ (ix2 r j) = mlp (fun k => x (ix2 r k)) W₁ b₁ W₂ b₂ j := by
  pointwise [k0_pay2, k0_pay1]
  rfl

/-- The second body, of which the block is in the narrower format. -/
theorem k1_pay1_apply (x : FVec Ideal S512x2048 .bf16) (W₁ : FVec Ideal S2048x2048 .f32) (b₁ : FVec Ideal S2048 .f32) (W₂ : FVec Ideal S2048x2048 .f32)
    (b₂ : FVec Ideal S2048 .f32) (r : Fin 512) (j : Fin 2048) :
    k1_pay1 (F := Ideal) x W₁ b₁ W₂ b₂ (ix2 r j) = mlp (fun k => x (ix2 r k)) W₁ b₁ W₂ b₂ j := by
  pointwise [k1_pay1]
  rfl

/-- Its third result is the same values. -/
theorem k1_pay2_apply (x : FVec Ideal S512x2048 .bf16) (W₁ : FVec Ideal S2048x2048 .f32) (b₁ : FVec Ideal S2048 .f32) (W₂ : FVec Ideal S2048x2048 .f32)
    (b₂ : FVec Ideal S2048 .f32) (r : Fin 512) (j : Fin 2048) :
    k1_pay2 (F := Ideal) x W₁ b₁ W₂ b₂ (ix2 r j) = mlp (fun k => x (ix2 r k)) W₁ b₁ W₂ b₂ j := by
  rw [← k1_pay1_apply]
  rfl

/-- The decoder's network on a row of 2048 latent values and the one value `s`: the first 2048 rows of its weights times the
    latent values, plus `s` times the last row `d`. -/
def decoder (x : Fin 2048 → EReal) (s : EReal) (W₁ : FVec Ideal S2048x2048 .f32) (d : FVec Ideal S1x2048 .f32) (b₁ : FVec Ideal S2048 .f32)
    (W₂ : FVec Ideal S2048x2048 .f32) (b₂ : FVec Ideal S2048 .f32) : Fin 2048 → EReal :=
  secondLayer (fun k => rowTimes x W₁ k + s * d (ix2 0 k) + b₁ (ix1 k)) W₂ b₂

/-- The third body: row `r` of its block through the decoder. -/
theorem k2_pay1_apply (x : FVec Ideal S512x2048 .bf16) (W₁ : FVec Ideal S2048x2048 .f32) (s : FVec Ideal S512x1 .f32) (d : FVec Ideal S1x2048 .f32)
    (b₁ : FVec Ideal S2048 .f32) (W₂ : FVec Ideal S2048x2048 .f32) (b₂ : FVec Ideal S2048 .f32) (r : Fin 512) (j : Fin 2048) :
    k2_pay1 (F := Ideal) x W₁ s d b₁ W₂ b₂ (ix2 r j) = decoder (fun k => x (ix2 r k)) (s (ix2 r 0)) W₁ d b₁ W₂ b₂ j := by
  pointwise [k2_pay1]
  rfl

end Cert.Vae

end
-- ==== Proof.Values.lean ====
/- What the arrays the calls write hold after them, element by element, on the extended reals. -/
module

public import proofs.«01_k».proof.Proof.Layers
public import proofs.«01_k».proof.Proof.Region0
public import proofs.«01_k».proof.Proof.Region1
public import proofs.«01_k».proof.Proof.Region2
public import Idealize.ShloMosaic.Lib.Pipeline.ValueKit.Point

@[expose] public section

set_option maxRecDepth 16384

noncomputable section

namespace Cert.Vae

open Idealize.ShloMosaic Idealize.ShloMosaic.TcCoe
open Idealize.ShloMosaic.Pipeline (Dat Cfg Window)
open Cert.KernelIdeal Cert.KernelIdeal.Gen

variable (V : (c : Dev nD) → (b : Ref sig .tc) → Buf (Elt Ideal) ((c : Thread nD τ).loc b))

/-- Row `r` of the block that point `t` of a grid of 16 handles: row `512 t + r` of the array. -/
def rowOf (t : Fin 16) (r : Fin 512) : Fin 8192 := ⟨t.val * 512 + r.val, by omega⟩

/-! ## The first call -/

/-- Point `t` reads rows from `512 t` on, and writes the same rows of both results. -/
theorem rows0_0 : ∀ t : Fin cfg0.N, win0_0.index t = ![t.val, 0] := (by decide +kernel : ∀ t : Fin grid0.N, win0_0.index t = ![t.val, 0])
theorem rows0_5 : ∀ t : Fin cfg0.N, win0_5.index t = ![t.val, 0] := (by decide +kernel : ∀ t : Fin grid0.N, win0_5.index t = ![t.val, 0])
theorem rows0_6 : ∀ t : Fin cfg0.N, win0_6.index t = ![t.val, 0] := (by decide +kernel : ∀ t : Fin grid0.N, win0_6.index t = ![t.val, 0])
/-- The weights and biases are read whole at every point. -/
theorem whole0_1 : ∀ t : Fin cfg0.N, win0_1.index t = ![0, 0] := (by decide +kernel : ∀ t : Fin grid0.N, win0_1.index t = ![0, 0])
theorem whole0_2 : ∀ t : Fin cfg0.N, win0_2.index t = ![0] := (by decide +kernel : ∀ t : Fin grid0.N, win0_2.index t = ![0])
theorem whole0_3 : ∀ t : Fin cfg0.N, win0_3.index t = ![0, 0] := (by decide +kernel : ∀ t : Fin grid0.N, win0_3.index t = ![0, 0])
theorem whole0_4 : ∀ t : Fin cfg0.N, win0_4.index t = ![0] := (by decide +kernel : ∀ t : Fin grid0.N, win0_4.index t = ![0])

theorem iblk0_1 (c : Dev nD) (t : Fin cfg0.N) : iblk0 V c 1 t = V c main_arg6 := by
  funext y; blk_ext [iblk0, whole0_1 t]
theorem iblk0_2 (c : Dev nD) (t : Fin cfg0.N) : iblk0 V c 2 t = V c main_arg7 := by
  funext y; blk_ext [iblk0, whole0_2 t]
theorem iblk0_3 (c : Dev nD) (t : Fin cfg0.N) : iblk0 V c 3 t = V c main_arg8 := by
  funext y; blk_ext [iblk0, whole0_3 t]
theorem iblk0_4 (c : Dev nD) (t : Fin cfg0.N) : iblk0 V c 4 t = V c main_arg9 := by
  funext y; blk_ext [iblk0, whole0_4 t]
theorem iblk0_0 (c : Dev nD) (t : Fin cfg0.N) (r : Fin 512) (k : Fin 2048) : iblk0 V c 0 t (ix2 r k) = V c main_arg0 (ix2 (rowOf t r) k) := by
  unfold rowOf; blk_ext [iblk0, rows0_0 t]

/-- The first call's first result: each row of the data through the log-variance network. -/
theorem lv_array (c : Dev nD) : (dat0 V c).arrAt 5 cfg0.N
    = fun i : S8192x2048.Idx => mlp (fun k => V c main_arg0 (ix2 (n0 := 8192) (i 0) k)) (V c main_arg6) (V c main_arg7) (V c main_arg8) (V c main_arg9) (i 1) := by
  refine (dat0 V c).arrAt_eq_of_covers 5 _ (by decide +kernel) fun t _ y => ?_
  obtain ⟨r, j, rfl⟩ : ∃ (r : Fin 512) (j : Fin 2048), y = ix2 r j := ⟨y 0, y 1, eq_ix2 y⟩
  blk_simp
  rw [after0_5]
  refine (k0_pay2_apply _ _ _ _ _ r j).trans ?_
  have e : (win0_5.blk t).view.emb (ix2 r j) = ix2 (rowOf t r) j := by unfold rowOf; blk_ext [rows0_5 t]
  rw [iblk0_1, iblk0_2, iblk0_3, iblk0_4, e]
  simp only [iblk0_0]
  rfl

/-- Its second result is the data itself. -/
theorem x_array (c : Dev nD) : (dat0 V c).arrAt 6 cfg0.N = (V c main_arg0 : S8192x2048.Idx → EReal) := by
  refine (dat0 V c).arrAt_eq_of_covers 6 _ (by decide +kernel) fun t _ y => ?_
  obtain ⟨r, j, rfl⟩ : ∃ (r : Fin 512) (j : Fin 2048), y = ix2 r j := ⟨y 0, y 1, eq_ix2 y⟩
  blk_simp
  rw [after0_6]
  refine (k0_pay1_apply _ r j).trans ?_
  have e : (win0_6.blk t).view.emb (ix2 r j) = ix2 (rowOf t r) j := by unfold rowOf; blk_ext [rows0_6 t]
  rw [iblk0_0, e]

/-! ## The second call -/

theorem rows1_0 : ∀ t : Fin cfg1.N, win1_0.index t = ![t.val, 0] := (by decide +kernel : ∀ t : Fin grid1.N, win1_0.index t = ![t.val, 0])
theorem rows1_5 : ∀ t : Fin cfg1.N, win1_5.index t = ![t.val, 0] := (by decide +kernel : ∀ t : Fin grid1.N, win1_5.index t = ![t.val, 0])
theorem rows1_6 : ∀ t : Fin cfg1.N, win1_6.index t = ![t.val, 0] := (by decide +kernel : ∀ t : Fin grid1.N, win1_6.index t = ![t.val, 0])
theorem rows1_7 : ∀ t : Fin cfg1.N, win1_7.index t = ![t.val, 0] := (by decide +kernel : ∀ t : Fin grid1.N, win1_7.index t = ![t.val, 0])
theorem whole1_1 : ∀ t : Fin cfg1.N, win1_1.index t = ![0, 0] := (by decide +kernel : ∀ t : Fin grid1.N, win1_1.index t = ![0, 0])
theorem whole1_2 : ∀ t : Fin cfg1.N, win1_2.index t = ![0] := (by decide +kernel : ∀ t : Fin grid1.N, win1_2.index t = ![0])
theorem whole1_3 : ∀ t : Fin cfg1.N, win1_3.index t = ![0, 0] := (by decide +kernel : ∀ t : Fin grid1.N, win1_3.index t = ![0, 0])
theorem whole1_4 : ∀ t : Fin cfg1.N, win1_4.index t = ![0] := (by decide +kernel : ∀ t : Fin grid1.N, win1_4.index t = ![0])

theorem iblk1_1 (c : Dev nD) (t : Fin cfg1.N) : iblk1 V c 1 t = V c main_arg2 := by
  funext y; blk_ext [iblk1, whole1_1 t]
theorem iblk1_2 (c : Dev nD) (t : Fin cfg1.N) : iblk1 V c 2 t = V c main_arg3 := by
  funext y; blk_ext [iblk1, whole1_2 t]
theorem iblk1_3 (c : Dev nD) (t : Fin cfg1.N) : iblk1 V c 3 t = V c main_arg4 := by
  funext y; blk_ext [iblk1, whole1_3 t]
theorem iblk1_4 (c : Dev nD) (t : Fin cfg1.N) : iblk1 V c 4 t = V c main_arg5 := by
  funext y; blk_ext [iblk1, whole1_4 t]
theorem iblk1_0 (c : Dev nD) (t : Fin cfg1.N) (r : Fin 512) (k : Fin 2048) : iblk1 V c 0 t (ix2 r k) = V c main_v0_1 (ix2 (rowOf t r) k) := by
  unfold rowOf; blk_ext [iblk1, rows1_0 t]

/-- Each row of the second call's input through the mean network. -/
def muOf (c : Dev nD) : S8192x2048.Idx → EReal :=
  fun i => mlp (fun k => V c main_v0_1 (ix2 (n0 := 8192) (i 0) k)) (V c main_arg2) (V c main_arg3) (V c main_arg4) (V c main_arg5) (i 1)

/-- What the body makes of its blocks at point `t` is those rows of it. -/
theorem mu_block (c : Dev nD) (t : Fin cfg1.N) (r : Fin 512) (j : Fin 2048) :
    mlp (fun k => iblk1 V c 0 t (ix2 r k)) (iblk1 V c 1 t) (iblk1 V c 2 t) (iblk1 V c 3 t) (iblk1 V c 4 t) j = muOf V c (ix2 (rowOf t r) j) := by
  rw [iblk1_1, iblk1_2, iblk1_3, iblk1_4]
  simp only [iblk1_0]
  rfl

/-- All three results of the second call hold it. -/
theorem mu_array5 (c : Dev nD) : (dat1 V c).arrAt 5 cfg1.N = muOf V c := by
  refine (dat1 V c).arrAt_eq_of_covers 5 _ (by decide +kernel) fun t _ y => ?_
  obtain ⟨r, j, rfl⟩ : ∃ (r : Fin 512) (j : Fin 2048), y = ix2 r j := ⟨y 0, y 1, eq_ix2 y⟩
  blk_simp
  rw [after1_5]
  have e : (win1_5.blk t).view.emb (ix2 r j) = ix2 (rowOf t r) j := by unfold rowOf; blk_ext [rows1_5 t]
  rw [e]
  exact (k1_pay1_apply _ _ _ _ _ r j).trans (mu_block V c t r j)
theorem mu_array6 (c : Dev nD) : (dat1 V c).arrAt 6 cfg1.N = muOf V c := by
  refine (dat1 V c).arrAt_eq_of_covers 6 _ (by decide +kernel) fun t _ y => ?_
  obtain ⟨r, j, rfl⟩ : ∃ (r : Fin 512) (j : Fin 2048), y = ix2 r j := ⟨y 0, y 1, eq_ix2 y⟩
  blk_simp
  rw [after1_6]
  have e : (win1_6.blk t).view.emb (ix2 r j) = ix2 (rowOf t r) j := by unfold rowOf; blk_ext [rows1_6 t]
  rw [e]
  exact (k1_pay1_apply _ _ _ _ _ r j).trans (mu_block V c t r j)
theorem mu_array7 (c : Dev nD) : (dat1 V c).arrAt 7 cfg1.N = muOf V c := by
  refine (dat1 V c).arrAt_eq_of_covers 7 _ (by decide +kernel) fun t _ y => ?_
  obtain ⟨r, j, rfl⟩ : ∃ (r : Fin 512) (j : Fin 2048), y = ix2 r j := ⟨y 0, y 1, eq_ix2 y⟩
  blk_simp
  rw [after1_7]
  have e : (win1_7.blk t).view.emb (ix2 r j) = ix2 (rowOf t r) j := by unfold rowOf; blk_ext [rows1_7 t]
  rw [e]
  exact (k1_pay2_apply _ _ _ _ _ r j).trans (mu_block V c t r j)

/-! ## The third call -/

theorem rows2_0 : ∀ t : Fin cfg2.N, win2_0.index t = ![t.val, 0] := (by decide +kernel : ∀ t : Fin grid2.N, win2_0.index t = ![t.val, 0])
theorem rows2_1 : ∀ t : Fin cfg2.N, win2_1.index t = ![t.val, 0] := (by decide +kernel : ∀ t : Fin grid2.N, win2_1.index t = ![t.val, 0])
theorem rows2_7 : ∀ t : Fin cfg2.N, win2_7.index t = ![t.val, 0] := (by decide +kernel : ∀ t : Fin grid2.N, win2_7.index t = ![t.val, 0])
theorem whole2_2 : ∀ t : Fin cfg2.N, win2_2.index t = ![0, 0] := (by decide +kernel : ∀ t : Fin grid2.N, win2_2.index t = ![0, 0])
theorem whole2_3 : ∀ t : Fin cfg2.N, win2_3.index t = ![0, 0] := (by decide +kernel : ∀ t : Fin grid2.N, win2_3.index t = ![0, 0])
theorem whole2_4 : ∀ t : Fin cfg2.N, win2_4.index t = ![0] := (by decide +kernel : ∀ t : Fin grid2.N, win2_4.index t = ![0])
theorem whole2_5 : ∀ t : Fin cfg2.N, win2_5.index t = ![0, 0] := (by decide +kernel : ∀ t : Fin grid2.N, win2_5.index t = ![0, 0])
theorem whole2_6 : ∀ t : Fin cfg2.N, win2_6.index t = ![0] := (by decide +kernel : ∀ t : Fin grid2.N, win2_6.index t = ![0])

theorem iblk2_3 (c : Dev nD) (t : Fin cfg2.N) : iblk2 V c 3 t = V c main_v2 := by
  funext y; blk_ext [iblk2, whole2_3 t]
theorem iblk2_4 (c : Dev nD) (t : Fin cfg2.N) : iblk2 V c 4 t = V c main_arg11 := by
  funext y; blk_ext [iblk2, whole2_4 t]
theorem iblk2_5 (c : Dev nD) (t : Fin cfg2.N) : iblk2 V c 5 t = V c main_arg12 := by
  funext y; blk_ext [iblk2, whole2_5 t]
theorem iblk2_6 (c : Dev nD) (t : Fin cfg2.N) : iblk2 V c 6 t = V c main_arg13 := by
  funext y; blk_ext [iblk2, whole2_6 t]
theorem iblk2_0 (c : Dev nD) (t : Fin cfg2.N) (r : Fin 512) (k : Fin 2048) : iblk2 V c 0 t (ix2 r k) = V c main_v1_2 (ix2 (rowOf t r) k) := by
  unfold rowOf; blk_ext [iblk2, rows2_0 t]
theorem iblk2_1 (c : Dev nD) (t : Fin cfg2.N) (r : Fin 512) : iblk2 V c 1 t (ix2 r (0 : Fin 1)) = V c main_arg1 (ix2 (rowOf t r) (0 : Fin 1)) := by
  unfold rowOf; blk_ext [iblk2, rows2_1 t]

/-- The first 2048 rows of the decoder's first weight matrix. -/
def upperRows (W : S2049x2048.Idx → EReal) : FVec Ideal S2048x2048 .f32 := fun i => W (ix2 (n0 := 2049) (Fin.castSucc (n := 2048) (i 0)) (i 1))

/-- The block of that matrix the third call reads at every point is those rows. -/
theorem X2_2_eq (c : Dev nD) (t : Fin cfg2.N) : X2_2 V c t = upperRows (V c main_arg10) := by
  funext y
  obtain ⟨r, j, rfl⟩ : ∃ (r : Fin 2048) (j : Fin 2048), y = ix2 r j := ⟨y 0, y 1, eq_ix2 y⟩
  unfold X2_2 upperRows Pipeline.Window.fill
  rw [dif_pos (moved2_2 t _)]
  blk_ext [iblk2, whole2_2 t]
  rfl

/-- The third call's result: each row of the latent values, with its `s`, through the decoder. -/
theorem rec_array (c : Dev nD) : (dat2 V c).arrAt 7 cfg2.N
    = fun i : S8192x2048.Idx => decoder (fun k => V c main_v1_2 (ix2 (n0 := 8192) (i 0) k)) (V c main_arg1 (ix2 (n0 := 8192) (i 0) (0 : Fin 1)))
        (upperRows (V c main_arg10)) (V c main_v2) (V c main_arg11) (V c main_arg12) (V c main_arg13) (i 1) := by
  refine (dat2 V c).arrAt_eq_of_covers 7 _ (by decide +kernel) fun t _ y => ?_
  obtain ⟨r, j, rfl⟩ : ∃ (r : Fin 512) (j : Fin 2048), y = ix2 r j := ⟨y 0, y 1, eq_ix2 y⟩
  blk_simp
  rw [after2_7]
  refine (k2_pay1_apply _ _ _ _ _ _ _ r j).trans ?_
  have e : (win2_7.blk t).view.emb (ix2 r j) = ix2 (rowOf t r) j := by unfold rowOf; blk_ext [rows2_7 t]
  rw [X2_2_eq, iblk2_3, iblk2_4, iblk2_5, iblk2_6, iblk2_1, e]
  simp only [iblk2_0]
  rfl

end Cert.Vae

end
-- ==== Proof.Reference.lean ====
/- What the reference's results hold, element by element: the same networks, row by row. -/
module

public import proofs.«01_k».proof.Proof.Gen.ReferenceIdeal.Run
public import proofs.«01_k».proof.Proof.Layers

@[expose] public section

noncomputable section

namespace Cert.Vae

open Idealize.ShloMosaic Idealize.ShloMosaic.TcCoe
open Cert.ReferenceIdeal Cert.ReferenceIdeal.Gen

/-- 0.01 as the float nearest to it is a number between 0 and 1. -/
theorem slope : ∃ a : ℝ, Ideal.ofBits .f32 0x3C23D70A#32 = (a : EReal) ∧ 0 ≤ a ∧ a ≤ 1 := by
  refine ⟨_, by simp [Ideal.ofBits, Ideal.ieee]; rfl, ?_, ?_⟩ <;> norm_num

/-- Choosing `x` where it is not negative and `0.01 x` elsewhere is the larger of the two, at the infinities too. -/
theorem leaky_eq (x : EReal) : (if 0 ≤ x then x else Ideal.ofBits .f32 0x3C23D70A#32 * x) = leaky x := by
  obtain ⟨a, ha, h0, h1⟩ := slope
  unfold leaky
  rw [ha]
  have hle : (a : EReal) ≤ 1 := by exact_mod_cast h1
  have hge : (0 : EReal) ≤ (a : EReal) := by exact_mod_cast h0
  by_cases hx : 0 ≤ x
  · rw [if_pos hx]
    refine (max_eq_left ?_).symm
    calc (a : EReal) * x ≤ 1 * x := mul_le_mul_of_nonneg_right hle hx
      _ = x := one_mul x
  · rw [if_neg hx]
    refine (max_eq_right ?_).symm
    have hx' : x ≤ 0 := le_of_lt (not_le.mp hx)
    have hn : 0 ≤ -x := EReal.neg_nonneg.mpr hx'
    have := mul_le_mul_of_nonneg_right hle hn
    rw [one_mul, mul_neg] at this
    exact EReal.neg_le_neg_iff.mp this

/-- The reference's activation of a whole array. -/
def refLeaky (h : FVec Ideal S8192x2048 .f32) : FVec Ideal S8192x2048 .f32 :=
  select (cmpf .oge h (broadcastInDim S8192x2048 ![] bcast_S_S8192x2048 (constant S_ .f32 0x00000000#32))) h
    (mulf (broadcastInDim S8192x2048 ![] bcast_S_S8192x2048 (id (constant S_ .f32 0x3C23D70A#32))) h)

theorem refLeaky_apply (h : FVec Ideal S8192x2048 .f32) (i : Fin 8192) (j : Fin 2048) : refLeaky h (ix2 i j) = leaky (h (ix2 i j)) := by
  pointwise [refLeaky]
  exact leaky_eq _

/-- The reference's bias, along every row. -/
def refBias (b : FVec Ideal S2048 .f32) : FVec Ideal S8192x2048 .f32 :=
  broadcastInDim S8192x2048 ![0, 1] bcast_S1x2048_S8192x2048_0_1 (broadcastInDim S1x2048 ![1] bcast_S2048_S1x2048_1 b)

/-- The reference's second layer, from the values before the activation. -/
def refSecond (h : FVec Ideal S8192x2048 .f32) (W : FVec Ideal S2048x2048 .f32) (b : FVec Ideal S2048 .f32) : FVec Ideal S8192x2048 .f32 :=
  addf (Host.dotGeneral dot_S8192x2048_S2048x2048_S8192x2048_1_0_0_1_n_n none (refLeaky h) W) (refBias b)

theorem refSecond_apply (h : FVec Ideal S8192x2048 .f32) (W : FVec Ideal S2048x2048 .f32) (b : FVec Ideal S2048 .f32) (i : Fin 8192) (j : Fin 2048) :
    refSecond h W b (ix2 i j) = secondLayer (fun k => h (ix2 i k)) W b j := by
  pointwise [refSecond, refBias]
  simp only [refLeaky_apply]
  rfl

/-- The reference's two-layer network. -/
def refMlp (x : FVec Ideal S8192x2048 .f32) (W₁ : FVec Ideal S2048x2048 .f32) (b₁ : FVec Ideal S2048 .f32) (W₂ : FVec Ideal S2048x2048 .f32)
    (b₂ : FVec Ideal S2048 .f32) : FVec Ideal S8192x2048 .f32 :=
  refSecond (addf (Host.dotGeneral dot_S8192x2048_S2048x2048_S8192x2048_1_0_0_1_n_n none x W₁) (refBias b₁)) W₂ b₂

/-- Row by row it is the network of the kernels. -/
theorem refMlp_apply (x : FVec Ideal S8192x2048 .f32) (W₁ : FVec Ideal S2048x2048 .f32) (b₁ : FVec Ideal S2048 .f32) (W₂ : FVec Ideal S2048x2048 .f32)
    (b₂ : FVec Ideal S2048 .f32) (i : Fin 8192) (j : Fin 2048) :
    refMlp x W₁ b₁ W₂ b₂ (ix2 i j) = mlp (fun k => x (ix2 i k)) W₁ b₁ W₂ b₂ j := by
  rw [refMlp, refSecond_apply, mlp]
  congr 1
  funext k
  pointwise [refBias]
  rfl

/-- The reference's decoder: the same network on the latent values with `s` joined as a last column. -/
def refDecoder (z : FVec Ideal S8192x2048 .f32) (s : FVec Ideal S8192x1 .f32) (W₁ : FVec Ideal S2049x2048 .f32) (b₁ : FVec Ideal S2048 .f32)
    (W₂ : FVec Ideal S2048x2048 .f32) (b₂ : FVec Ideal S2048 .f32) : FVec Ideal S8192x2048 .f32 :=
  refSecond (addf (Host.dotGeneral dot_S8192x2049_S2049x2048_S8192x2048_1_0_0_1_n_n none
    (concatenate S8192x2049 1 [⟨S8192x2048, z⟩, ⟨S8192x1, s⟩] concatenates_S8192x2048_S8192x1_S8192x2049_d1) W₁) (refBias b₁)) W₂ b₂

/-- Row by row it is the kernel's decoder: a sum over 2049 columns is the sum over the first 2048 plus the last term. -/
theorem refDecoder_apply (z : FVec Ideal S8192x2048 .f32) (s : FVec Ideal S8192x1 .f32) (W₁ : FVec Ideal S2049x2048 .f32) (b₁ : FVec Ideal S2048 .f32)
    (W₂ : FVec Ideal S2048x2048 .f32) (b₂ : FVec Ideal S2048 .f32) (U : FVec Ideal S2048x2048 .f32) (d : FVec Ideal S1x2048 .f32)
    (hU : ∀ (k : Fin 2048) (j : Fin 2048), U (ix2 k j) = W₁ (ix2 (Fin.castSucc k) j)) (hd : ∀ j : Fin 2048, d (ix2 0 j) = W₁ (ix2 (Fin.last 2048) j))
    (i : Fin 8192) (j : Fin 2048) :
    refDecoder z s W₁ b₁ W₂ b₂ (ix2 i j) = decoder (fun k => z (ix2 i k)) (s (ix2 i 0)) U d b₁ W₂ b₂ j := by
  rw [refDecoder, refSecond_apply, decoder]
  congr 1
  funext k
  pointwise [refBias]
  simp [rowTimes, hU, hd]
  rfl

open Cert.ReferenceIdeal.Value in
/-- The reference's first result is that decoder of its mean network's result. -/
theorem res_out0_eq (m : (ℓ : Loc nD τ sig) → Buf (Elt Ideal) ℓ) (c : Dev nD) : res_out0 m c
    = refDecoder (refMlp (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)))
      (m ((c.tc : Thread nD τ).loc main_arg1)) (m ((c.tc : Thread nD τ).loc main_arg10)) (m ((c.tc : Thread nD τ).loc main_arg11))
      (m ((c.tc : Thread nD τ).loc main_arg12)) (m ((c.tc : Thread nD τ).loc main_arg13)) := by
  unfold res_out0 res_main_v27; rfl

end Cert.Vae

end
-- ==== Proof.Transfer.lean ====
/- The program read at machine words and the program read over the extended reals are one text: `Cert.Kernel` and
   `Cert.KernelIdeal` print the same declarations, since no operation of the kernel was replaced. Here: their tables of
   definitions are equal at every reading of the floats, so a run proved of one is a run of the other. -/
module

public import proofs.«01_k».proof.Defs
public import proofs.«01_k».proof.Proof.Gen.Kernel
public import proofs.«01_k».proof.Proof.Gen.KernelIdeal

@[expose] public section

set_option maxRecDepth 16384

noncomputable section

namespace Cert.Vae

open Idealize.ShloMosaic

variable {F : FTy → Type} [FloatOps F]

set_option maxHeartbeats 4000000 in
/-- The three kernel bodies, label by label, are the same programs. -/
theorem bodies_same : @Cert.Kernel.defs₀ F _ _ = @Cert.KernelIdeal.defs₀ F _ _ := by
  unfold Cert.Kernel.defs₀ Cert.KernelIdeal.defs₀
  refine congrArg Defs.onTc (funext fun l => funext fun x => ?_)
  match l, x with
  | 0, (t, s) => rfl
  | 1, (t, s) => rfl
  | 2, (t, s) => rfl

set_option maxHeartbeats 4000000 in
/-- Hence the whole tables (the pipelines' loops and the bodies they call) are the same. -/
theorem defs_same : @Cert.Kernel.defs F _ _ = @Cert.KernelIdeal.defs F _ _ :=
  congrArg (Idealize.ShloMosaic.Pipeline.defs (Cert.KernelIdeal.pcfgs (F := F))) bodies_same

end Cert.Vae

end
-- ==== Proof.Claims.lean ====
/- The claims: the two kernels' and the reference's frames, and the equality of all four results on the extended reals. -/
module

public import proofs.«01_k».proof.Defs
public import proofs.«01_k».proof.Proof.Run
public import proofs.«01_k».proof.Proof.Values
public import proofs.«01_k».proof.Proof.Reference
public import proofs.«01_k».proof.Proof.Transfer
public import Idealize.ShloMosaic.Lib.Claim
public import Idealize.ShloMosaic.Lib.Quiescent

@[expose] public section

set_option maxRecDepth 16384

noncomputable section

namespace Cert.Vae

open Idealize.ShloMosaic Idealize.ShloMosaic.TcCoe Idealize.SL.Sem

section Kernel

open Cert.KernelIdeal Cert.KernelIdeal.Gen

variable {F : FTy → Type} [FloatOps F] (m : (ℓ : Loc nD τ sig) → Buf (Elt F) ℓ)

/-- An argument lives across the calls. -/
theorem args_live : ∀ a ∈ argRefs, ¬ (Proc.devRef .tc a : DevRef τ sig).isScoped := ListAll.forall_mem_of_all_decide (by decide +kernel)

/-- Every argument ends as it began. -/
theorem kept {mem : (ℓ : Loc nD τ sig) → Buf (Elt F) ℓ} (h : ∀ c : Dev nD, ∀ b ∈ Pipeline.ucRefs τ sig, mem (((c : Thread nD τ)).1, b) = W4 m c b)
    (c : Dev nD) (a : Ref sig .tc) (ha : a ∈ argRefs) : mem ((c.tc : Thread nD τ).loc a) = m ((c.tc : Thread nD τ).loc a) :=
  (run_reads m c a (args_live a ha) h).trans (W4_arg m c a ha)

/-- The frame of the kernel's text at any float values: it terminates, the arguments are unchanged, the counters are zero. -/
theorem frame (g : Dev nD → PrngReg) : θ_run defs (onTc (τ := τ) (main (F := F))) ⟨m, fun _ => 0, g⟩ (fun r =>
    (∀ c : Dev nD, argRefs.Forall fun a => r.2.mem ((c.tc : Thread nD τ).loc a) = m ((c.tc : Thread nD τ).loc a)) ∧ r.2.sem = fun _ => 0) :=
  (θ_run defs _ _).mono (fun _ h => ⟨fun c => List.forall_iff_forall_mem.mpr (kept m h.1 c), h.2⟩) (run m g)

end Kernel

/-! ## The results on the extended reals -/

section Results

open Cert.KernelIdeal
open Cert.KernelIdeal.Gen hiding V0 V1 V2 V3 V4 segs

variable (m : (ℓ : Loc nD τ sig) → Buf (Elt Ideal) ℓ) (c : Dev nD)

/-- The log-variance: each row of the data through its network. -/
theorem end_lv : W4 m c (Proc.devRef .tc main_v0_0) = fun i : S8192x2048.Idx =>
    mlp (fun k => m ((c : Thread nD τ).loc main_arg0) (ix2 (n0 := 8192) (i 0) k)) (m ((c : Thread nD τ).loc main_arg6)) (m ((c : Thread nD τ).loc main_arg7))
      (m ((c : Thread nD τ).loc main_arg8)) (m ((c : Thread nD τ).loc main_arg9)) (i 1) := by
  rw [W4_of m c main_v0_0 (by decide +kernel), W3_of m c main_v0_0 (by decide +kernel), W2_of m c main_v0_0 (by decide +kernel)]
  exact (W1_arr m c 5).trans (lv_array (atRefs (W0 m)) c)

/-- The copy of the data the second call reads is the data. -/
theorem copy_x : W1 m c (Proc.devRef .tc main_v0_1) = m ((c : Thread nD τ).loc main_arg0) :=
  (W1_arr m c 6).trans (x_array (atRefs (W0 m)) c)

/-- The mean: each row of the data through its network. -/
def mean : S8192x2048.Idx → EReal := fun i =>
    mlp (fun k => m ((c : Thread nD τ).loc main_arg0) (ix2 (n0 := 8192) (i 0) k)) (m ((c : Thread nD τ).loc main_arg2)) (m ((c : Thread nD τ).loc main_arg3))
      (m ((c : Thread nD τ).loc main_arg4)) (m ((c : Thread nD τ).loc main_arg5)) (i 1)

theorem muOf_eq : muOf (atRefs (W1 m)) c = mean m c := by
  unfold muOf mean atRefs
  rw [copy_x m c, W1_arg m c main_arg2 (by decide), W1_arg m c main_arg3 (by decide), W1_arg m c main_arg4 (by decide), W1_arg m c main_arg5 (by decide)]

/-- All three of the second call's results end at it. -/
theorem end_mu : W4 m c (Proc.devRef .tc main_v1_0) = mean m c := by
  rw [W4_of m c main_v1_0 (by decide +kernel), W3_of m c main_v1_0 (by decide +kernel)]
  exact (W2_arr m c 5).trans ((mu_array5 (atRefs (W1 m)) c).trans (muOf_eq m c))
theorem end_sample : W4 m c (Proc.devRef .tc main_v1_1) = mean m c := by
  rw [W4_of m c main_v1_1 (by decide +kernel), W3_of m c main_v1_1 (by decide +kernel)]
  exact (W2_arr m c 6).trans ((mu_array6 (atRefs (W1 m)) c).trans (muOf_eq m c))
theorem copy_mu : W3 m c (Proc.devRef .tc main_v1_2) = mean m c := by
  rw [W3_of m c main_v1_2 (by decide +kernel)]
  exact (W2_arr m c 7).trans ((mu_array7 (atRefs (W1 m)) c).trans (muOf_eq m c))

/-- The last row of the decoder's first weight matrix. -/
def lastRow (W : S2049x2048.Idx → EReal) : FVec Ideal S1x2048 .f32 := extractStridedSlice S1x2048 ![2048, 0] W slices_S2049x2048_S1x2048_2048_0

theorem lastRow_apply (W : S2049x2048.Idx → EReal) (j : Fin 2048) : lastRow W (ix2 0 j) = W (ix2 (Fin.last 2048) j) := by
  pointwise [lastRow]
  rfl

/-- The cut leaves that row. -/
theorem cut_row : W3 m c (Proc.devRef .tc main_v2) = lastRow (m ((c : Thread nD τ).loc main_arg10)) := by
  rw [← W2_arg m c main_arg10 (by decide)]
  after_results
  rfl

/-- The reconstruction: each row of the mean, with its `s`, through the decoder. -/
theorem end_rec : W4 m c (Proc.devRef .tc main_v3) = fun i : S8192x2048.Idx =>
    decoder (fun k => mean m c (ix2 (n0 := 8192) (i 0) k)) (m ((c : Thread nD τ).loc main_arg1) (ix2 (n0 := 8192) (i 0) (0 : Fin 1)))
      (upperRows (m ((c : Thread nD τ).loc main_arg10))) (lastRow (m ((c : Thread nD τ).loc main_arg10))) (m ((c : Thread nD τ).loc main_arg11))
      (m ((c : Thread nD τ).loc main_arg12)) (m ((c : Thread nD τ).loc main_arg13)) (i 1) := by
  refine (W4_arr m c 7).trans ((rec_array (atRefs (W3 m)) c).trans ?_)
  unfold atRefs
  rw [copy_mu m c, cut_row m c, W3_arg m c main_arg1 (by decide), W3_arg m c main_arg10 (by decide), W3_arg m c main_arg11 (by decide),
    W3_arg m c main_arg12 (by decide), W3_arg m c main_arg13 (by decide)]

end Results

/-! ## Beside the reference's -/

section Equation

open Cert.KernelIdeal

/-- A network over the whole array is the reference's. -/
theorem mlp_eq_ref (x : FVec Ideal S8192x2048 .f32) (W₁ : FVec Ideal S2048x2048 .f32) (b₁ : FVec Ideal S2048 .f32) (W₂ : FVec Ideal S2048x2048 .f32)
    (b₂ : FVec Ideal S2048 .f32) : refMlp x W₁ b₁ W₂ b₂ = fun i : S8192x2048.Idx => mlp (fun k => x (ix2 (n0 := 8192) (i 0) k)) W₁ b₁ W₂ b₂ (i 1) := by
  funext i
  obtain ⟨r, j, rfl⟩ : ∃ (r : Fin 8192) (j : Fin 2048), i = ix2 r j := ⟨i 0, i 1, eq_ix2 i⟩
  exact refMlp_apply x W₁ b₁ W₂ b₂ r j

/-- The decoder over the whole array is the reference's. -/
theorem decoder_eq_ref (z : FVec Ideal S8192x2048 .f32) (s : FVec Ideal S8192x1 .f32) (W₁ : FVec Ideal S2049x2048 .f32) (b₁ : FVec Ideal S2048 .f32)
    (W₂ : FVec Ideal S2048x2048 .f32) (b₂ : FVec Ideal S2048 .f32) : refDecoder z s W₁ b₁ W₂ b₂ = fun i : S8192x2048.Idx =>
      decoder (fun k => z (ix2 (n0 := 8192) (i 0) k)) (s (ix2 (n0 := 8192) (i 0) (0 : Fin 1))) (upperRows W₁) (lastRow W₁) b₁ W₂ b₂ (i 1) := by
  funext i
  obtain ⟨r, j, rfl⟩ : ∃ (r : Fin 8192) (j : Fin 2048), i = ix2 r j := ⟨i 0, i 1, eq_ix2 i⟩
  exact refDecoder_apply z s W₁ b₁ W₂ b₂ (upperRows W₁) (lastRow W₁) (fun _ _ => rfl) (lastRow_apply W₁) r j

end Equation

/-! ## The claims -/

/-- The kernel over exact values: termination, unchanged arguments, counters at zero. -/
theorem frame_kernelIdeal : Cert.quiescent_KernelIdeal (hKernelIdeal := Cert.KernelIdeal.Gen.facts) := fun m g _ =>
  (θ_run Cert.KernelIdeal.defs _ _).mono (fun _ h => ⟨fun c => h.1 c, h.2⟩) (frame m g)

/-- The kernel over words: its text is the same, so this is the same theorem. -/
theorem frame_kernel : Cert.quiescent_Kernel (hKernel := Cert.Kernel.Gen.facts) := fun m g _ => by
  rw [defs_same]
  exact (θ_run Cert.KernelIdeal.defs _ _).mono (fun _ h => ⟨fun c => h.1 c, h.2⟩) (frame (F := Bits) m g)

/-- The reference: a list of operations on whole arrays, with no counter to leave standing. -/
theorem frame_reference : Cert.quiescent_ReferenceIdeal (hReferenceIdeal := Cert.ReferenceIdeal.Gen.facts) := fun m g _ =>
  (θ_run Cert.ReferenceIdeal.defs _ _).mono
    (fun r h => ⟨fun c => (h c).2.2.2.2, sem_eq_zero_of_no_sems (by decide) r.2⟩) (Cert.ReferenceIdeal.Value.run m g)

/-- From equal arguments the kernel's four results and the reference's are equal, element by element, on the extended reals. -/
theorem equal_results : Cert.algebraic_KernelIdeal_ReferenceIdeal (hKernelIdeal := Cert.KernelIdeal.Gen.facts)
    (hReferenceIdeal := Cert.ReferenceIdeal.Gen.facts) := by
  intro m g m' g' _ hargs
  refine ⟨fun c => W4 m c (Proc.devRef .tc Cert.KernelIdeal.main_v3), fun c => W4 m c (Proc.devRef .tc Cert.KernelIdeal.main_v1_0),
    fun c => W4 m c (Proc.devRef .tc Cert.KernelIdeal.main_v0_0), fun c => W4 m c (Proc.devRef .tc Cert.KernelIdeal.main_v1_1), ?_, ?_⟩
  · exact (θ_run Cert.KernelIdeal.defs _ _).mono (fun _ h c => ⟨run_reads m c _ (by decide) h.1, run_reads m c _ (by decide) h.1,
      run_reads m c _ (by decide) h.1, run_reads m c _ (by decide) h.1,
      (List.forall_iff_forall_mem.mpr (kept m h.1 c) : List.Forall _ argRefs)⟩) (run m g)
  · refine (θ_run Cert.ReferenceIdeal.defs _ _).mono (fun _ h c => ?_) (Cert.ReferenceIdeal.Value.run m' g')
    obtain ⟨h0, h1, h2, h3, h4, h5, h6, h7, h8, h9, h10, h11, h12, h13⟩ := hargs c
    have hmean : refMlp (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = mean m c := by
      rw [mlp_eq_ref, h0, h2, h3, h4, h5]; rfl
    refine ⟨(h c).1.trans ?_, (h c).2.1.trans (hmean.trans (end_mu m c).symm), (h c).2.2.1.trans ?_,
      (h c).2.2.2.1.trans (hmean.trans (end_sample m c).symm), (h c).2.2.2.2⟩
    · refine (res_out0_eq m' c).trans ?_
      rw [hmean, decoder_eq_ref, h1, h10, h11, h12, h13]
      exact (end_rec m c).symm
    · refine (mlp_eq_ref _ _ _ _ _).trans ?_
      rw [h0, h6, h7, h8, h9]
      exact (end_lv m c).symm

end Cert.Vae

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim, with the side conditions the programs state. -/
theorem claim : Cert.Claim := ⟨Cert.Kernel.Gen.facts, Cert.KernelIdeal.Gen.facts, Cert.ReferenceIdeal.Gen.facts,
  Cert.Vae.frame_kernel, Cert.Vae.frame_kernelIdeal, Cert.Vae.frame_reference, trivial, Cert.Vae.equal_results⟩

end Cert.Proof

end
